-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S4x8192 : Shape := ⟨2, ![4, 8192]⟩
abbrev S4x8192x256 : Shape := ⟨3, ![4, 8192, 256]⟩
abbrev S4x1024 : Shape := ⟨2, ![4, 1024]⟩
abbrev S4x1024x256 : Shape := ⟨3, ![4, 1024, 256]⟩
abbrev S4x1024x1 : Shape := ⟨3, ![4, 1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S4x8192x256, .f32⟩
  | .local _ .vmem, ⟨0, _⟩ => ⟨S4x1024, .i32⟩
  | .local _ .vmem, ⟨1, _⟩ => ⟨S4x1024, .i32⟩
  | .local _ .vmem, ⟨2, _⟩ => ⟨S4x1024x256, .f32⟩
  | .local _ .vmem, ⟨3, _⟩ => ⟨S4x1024x256, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S4x8192x1 : Shape := ⟨3, ![4, 8192, 1]⟩
abbrev S1x1x256 : Shape := ⟨3, ![1, 1, 256]⟩
abbrev S4x8192x256 : Shape := ⟨3, ![4, 8192, 256]⟩

abbrev nBuf : Space → Nat
  | .hbm => 7
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S4x8192x1, .i32⟩
  | .hbm, ⟨2, _⟩ => ⟨S1x1x256, .i32⟩
  | .hbm, ⟨3, _⟩ => ⟨S4x8192x256, .i32⟩
  | .hbm, ⟨4, _⟩ => ⟨S4x8192x256, .i32⟩
  | .hbm, ⟨5, _⟩ => ⟨S4x8192x256, .i1⟩
  | .hbm, ⟨6, _⟩ => ⟨S4x8192x256, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.OneHot.lean ====
/-
  The mathematics of the one-hot encoding, apart from any program: the result as one function of the integer array,
  the fact that the kernel's way of turning a truth value into a float (widen to 32 bits, read as a signed integer)
  and the host's (read the single bit as an unsigned integer) agree, what the kernel's body computes of one block, and
  what the host program computes of the whole array.
-/
module

public import Idealize.ShloMosaic.Lib.Pipeline.Value
public import Idealize.ShloMosaic.Lib.ValueIdxCore
public import Idealize.ShloMosaic.PureOps.Ideal
public import Idealize.ShloMosaic.PureOps.BitExact

@[expose] public section

noncomputable section

namespace Cert.OneHot

open Idealize.ShloMosaic Idealize.ShloMosaic.ValueIdx

/-- `b` rows of `n` integers, -/
abbrev Ints (b n : Nat) : Shape := ⟨2, ![b, n]⟩
/-- the same with a trailing axis of one element, -/
abbrev Cols (b n : Nat) : Shape := ⟨3, ![b, n, 1]⟩
/-- and the encodings: `b` rows of `n` vectors of `k` floats. -/
abbrev Hots (b n k : Nat) : Shape := ⟨3, ![b, n, k]⟩

variable {F : FTy → Type} [FloatOps F]

/-- THE ONE-HOT ENCODING of the array `x`: entry `(r, s, q)` is the float of the truth value "the integer at `(r, s)` is
    the word `q`". -/
def hot {b n k : Nat} (x : IVec (Ints b n) 32) : FVec F (Hots b n k) .f32 := fun j =>
  FloatOps.uitofp .f32 (IntOp.cmpi .eq (x (ix2 (j 0) (j 1))) (BitVec.ofNat 32 (j 2).val))

/-- The two readings of a truth value as a float agree: its bit widened to 32 bits and read signed, and the bit itself
    read unsigned. -/
def BoolReadings (F : FTy → Type) [FloatOps F] : Prop :=
  ∀ q : BitVec 1, (FloatOps.sitofp .f32 (q.setWidth 32) : F .f32) = FloatOps.uitofp .f32 q

/-- A bit widened to 32 bits, read signed, is the bit read unsigned: 0 or 1. -/
theorem toInt_widened : ∀ q : BitVec 1, (q.setWidth 32).toInt = (q.toNat : Int) := by decide

/-- They agree over the extended reals: both are the integer 0 or 1. -/
theorem boolReadings_ideal : BoolReadings Ideal := fun q => by
  show (((q.setWidth 32).toInt : ℝ) : EReal) = ((q.toNat : ℝ) : EReal)
  rw [toInt_widened q, Int.cast_natCast]

/-- They agree as 32-bit float words: both are the float nearest the integer 0 or 1. -/
theorem boolReadings_bits : BoolReadings Bits := fun q => by
  show Bits.sitofp32 (q.setWidth 32) = Bits.uitofp32 q
  unfold Bits.sitofp32 Bits.uitofp32
  rw [toInt_widened q]

/-- Over the extended reals an entry of the encoding is 1 where the integer is the entry's position and 0 elsewhere. -/
theorem hot_ideal {b n k : Nat} (x : IVec (Ints b n) 32) (j : (Hots b n k).Idx) :
    hot (F := Ideal) x j = if x (ix2 (j 0) (j 1)) = BitVec.ofNat 32 (j 2).val then (1 : EReal) else 0 := by
  show (((IntOp.cmpi .eq (x (ix2 (j 0) (j 1))) (BitVec.ofNat 32 (j 2).val)).toNat : ℝ) : EReal) = _
  split <;> rename_i h <;> simp [IntOp.cmpi, h]

/-- WHAT THE KERNEL'S BODY COMPUTES OF A BLOCK is the block's encoding: the integers given a trailing unit axis and spread
    along it, compared with the position along that axis, the truth value widened and read as a signed integer. -/
theorem block_eq {b n k : Nat} (hr : BoolReadings F) (x : IVec (Ints b n) 32)
    (hi : (Hots b n k).Iotas .tc 32 [2]) (hc : (Ints b n).ShapeCasts (Cols b n)) (hb : (Cols b n).Broadcasts (Hots b n k))
    (hw : 1 < 32) :
    sitofp (F := F) .f32 (extui 32 (cmpi .eq (broadcastTo (Hots b n k) (shapeCast (Cols b n) x hc) hb)
      (iota .tc (Hots b n k) 32 [2] hi)) hw) = hot x := by
  funext j
  have hx : broadcastTo (Hots b n k) (shapeCast (Cols b n) x hc) hb j = x (ix2 (j 0) (j 1)) := by
    rw [broadcastTo_apply _ hb j (ix3 (j 0) (j 1) (0 : Fin 1)) ?_]
    · refine shapeCast_apply x hc _ _ ?_
      show (Shape.rowMajorPi ![b, n] (ix2 (j 0) (j 1))).val = (Shape.rowMajorPi ![b, n, 1] (ix3 (j 0) (j 1) (0 : Fin 1))).val
      simp [Shape.rowMajorPi_succ_val]; rfl
    · intro a
      match a with
      | ⟨0, _⟩ =>
        show (j 0).val = if b = 1 then 0 else (j 0).val
        have : (j 0).val < b := (j 0).isLt
        split <;> omega
      | ⟨1, _⟩ =>
        show (j 1).val = if n = 1 then 0 else (j 1).val
        have : (j 1).val < n := (j 1).isLt
        split <;> omega
      | ⟨2, _⟩ => rfl
  show FloatOps.sitofp .f32 ((IntOp.cmpi .eq (broadcastTo (Hots b n k) (shapeCast (Cols b n) x hc) hb j)
    (iota .tc (Hots b n k) 32 [2] hi j)).setWidth 32) = _
  rw [hx, iota_single_apply, hr]
  rfl

/-- WHAT THE HOST PROGRAM COMPUTES OF THE WHOLE ARRAY is its encoding: the integers spread along a new last axis, the
    positions `0 … 255` spread along the other two, the truth value of their equality read as an unsigned integer. -/
theorem host_eq (x : IVec (Ints 4 8192) 32)
    (h1 : (Ints 4 8192).BroadcastsInDim (Cols 4 8192) ![0, 1]) (h2 : (Cols 4 8192).BroadcastsInDim (Hots 4 8192 256) ![0, 1, 2])
    (h3 : (Hots 1 1 256).BroadcastsInDim (Hots 4 8192 256) ![0, 1, 2]) :
    uitofp (F := F) .f32 (cmpi .eq (broadcastInDim (Hots 4 8192 256) ![0, 1, 2] h2 (broadcastInDim (Cols 4 8192) ![0, 1] h1 x))
      (broadcastInDim (Hots 4 8192 256) ![0, 1, 2] h3 (iotaInDim (Hots 1 1 256) 32 2))) = hot x := by
  funext j
  have hx : broadcastInDim (Hots 4 8192 256) ![0, 1, 2] h2 (broadcastInDim (Cols 4 8192) ![0, 1] h1 x) j
      = x (ix2 (j 0) (j 1)) := by
    unfold broadcastInDim
    refine congrArg x (funext fun a => ?_)
    match a with
    | ⟨0, _⟩ => rfl
    | ⟨1, _⟩ => rfl
  show FloatOps.uitofp .f32 (IntOp.cmpi .eq
    (broadcastInDim (Hots 4 8192 256) ![0, 1, 2] h2 (broadcastInDim (Cols 4 8192) ![0, 1] h1 x) j)
    (broadcastInDim (Hots 4 8192 256) ![0, 1, 2] h3 (iotaInDim (Hots 1 1 256) 32 2) j)) = _
  rw [hx]
  rfl

end Cert.OneHot

end
-- ==== Proof.KernelIdealValue.lean ====
/-
  What `KernelIdeal` leaves in its result array: the one-hot encoding of its argument. Every grid point writes the encoding
  of its block of 1024 columns, which is the same block of the whole array's encoding, and the eight blocks cover the
  array. The float values are arbitrary, provided that the two readings of a truth value as a float agree on them.
-/
module

public import proofs.«01_k».proof.Proof.Gen.KernelIdeal.Value
public import proofs.«01_k».proof.Proof.OneHot
public import Idealize.ShloMosaic.Lib.Pipeline.ValueKit.Geometry

@[expose] public section

noncomputable section

namespace Cert.KernelIdeal.Encoded

open Cert.KernelIdeal Cert.KernelIdeal.Gen Cert.OneHot
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- The encoding of device `c`'s argument: what the result array is shown to hold. -/
abbrev result (c : Dev nD) : Buf (Elt F) ((c : Thread nD τ).loc main_v0) :=
  hot (F := F) (b := 4) (n := 8192) (k := 256) (m ((c : Thread nD τ).loc main_arg0))

/-- At point `t` both windows stand at column block `t`, and at 0 on the other axes. -/
theorem index0 : ∀ t : Fin cfg0.N, win0_0.index t = ![0, t.val] :=
  (by decide +kernel : ∀ t : Fin grid0.N, win0_0.index t = ![0, t.val])
theorem index1 : ∀ t : Fin cfg0.N, win0_1.index t = ![0, t.val, 0] :=
  (by decide +kernel : ∀ t : Fin grid0.N, win0_1.index t = ![0, t.val, 0])

/-- What the body leaves in the output's staging buffer is the encoding of the block of integers it was given. -/
theorem out_eq (hr : BoolReadings F) (x : Vec F S4x1024 .i32) : out0_1 x = hot (F := F) (b := 4) (n := 1024) (k := 256) x := by
  unfold out0_1
  rw [View.canon_unit_zero (funext fun a => by fin_cases a <;> rfl), View.ld_unit_zero (funext fun a => by fin_cases a <;> rfl)]
  exact block_eq hr x _ _ _ _

/-- So the result array ends holding the encoding of the whole argument. -/
theorem final (hr : BoolReadings F) (c : Dev nD) : (dats m 0 c).arrAt 1 cfg0.N = result m c := by
  refine (dats m 0 c).arrAt_eq_of_covers 1 _ (by decide +kernel) fun t _ y => ?_
  blk_simp
  rw [after0_1, out_eq hr]
  have e0 : (((cfg0.win 1).blk t).view.emb y 0 : Fin 4).val = (y 0).val := by blk_simp [index1]
  have e1 : (((cfg0.win 1).blk t).view.emb y 1 : Fin 8192).val = t.val * 1024 + (y 1).val := by blk_simp [index1]
  have e2 : (((cfg0.win 1).blk t).view.emb y 2 : Fin 256).val = (y 2).val := by blk_simp [index1]
  have hx : iblk m c 0 t (ix2 (y 0) (y 1))
      = m ((c : Thread nD τ).loc main_arg0)
          (ix2 (((cfg0.win 1).blk t).view.emb y 0) (((cfg0.win 1).blk t).view.emb y 1)) := by
    blk_simp [iblk]
    refine congrArg (m ((c : Thread nD τ).loc main_arg0)) (funext fun a => Fin.ext ?_)
    match a with
    | ⟨0, _⟩ => blk_simp [index0]; exact e0.symm
    | ⟨1, _⟩ => blk_simp [index0]; exact e1.symm
  unfold result hot
  rw [← hx, ← e2]

/-- The run, read: the result array at the encoding, the argument unchanged. -/
theorem run (hr : BoolReadings F) : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m hr c), (h c).2⟩) (Value.run_blocks m ρ)

end Cert.KernelIdeal.Encoded

end
-- ==== Proof.lean ====
/-
  The certificate of the one-hot encoding kernel. The frames and the host programs' runs are generated;
  `Proof/OneHot.lean` has the mathematics, `Proof/KernelValue.lean` and `Proof/KernelIdealValue.lean` the kernel's
  result array as the encoding of its argument. Here the two references' results are read as the same encoding, and
  the claims are put together.
-/
module

public import proofs.«01_k».proof.Defs
public import proofs.«01_k».proof.Proof.Gen.Kernel.Frame
public import proofs.«01_k».proof.Proof.Gen.Kernel.Value
public import proofs.«01_k».proof.Proof.Gen.KernelIdeal.Frame
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.KernelIdealValue
public import Idealize.ShloMosaic.Lib.Quiescent

@[expose] public section

noncomputable section

namespace Cert.Proof

open Idealize.ShloMosaic Idealize.SL.Sem Cert.OneHot

/-- The kernel's frame, as printed, -/
theorem frame_kernel : Cert.quiescent_Kernel := fun m ρ _ => Cert.Kernel.Gen.frame m ρ
/-- and over the extended reals. -/
theorem frame_kernel_ideal : Cert.quiescent_KernelIdeal := fun m ρ _ => Cert.KernelIdeal.Gen.frame m ρ

/-- The reference's frame, as printed: its run keeps the argument, and it declares no semaphore; -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)
/-- and over the extended reals. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the kernel's own text: nothing was rewritten. -/
theorem preserves : Cert.preserves_Kernel_KernelIdeal := trivial

/-- Kernel and reference end with the same words: both result arrays are the encoding of arguments that agree. -/
theorem bitexact : Cert.bitexact_Kernel_Reference := by
  intro m ρ m' ρ' _ hagree
  refine ⟨fun c => Cert.Kernel.Encoded.result m c, Cert.Kernel.Encoded.run m ρ boolReadings_bits, ?_⟩
  refine (θ_run Cert.Reference.defs _ _).mono (fun _ h c => ⟨(h c).1.trans ((host_eq _ _ _ _).trans ?_), (h c).2⟩)
    (Cert.Reference.Value.run (F := Bits) m' ρ')
  rw [hagree c]

/-- Kernel and reference compute the same function over the extended reals: both result arrays are the encoding of
    arguments that agree. -/
theorem algebraic : Cert.algebraic_KernelIdeal_ReferenceIdeal := by
  intro m ρ m' ρ' _ hagree
  refine ⟨fun c => Cert.KernelIdeal.Encoded.result m c, Cert.KernelIdeal.Encoded.run m ρ boolReadings_ideal, ?_⟩
  refine (θ_run Cert.ReferenceIdeal.defs _ _).mono (fun _ h c => ⟨(h c).1.trans ((host_eq _ _ _ _).trans ?_), (h c).2⟩)
    (Cert.ReferenceIdeal.Value.run (F := Ideal) m' ρ')
  rw [hagree c]

/-- Everything the certificate claims. -/
theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, preserves, bitexact, algebraic⟩

end Cert.Proof

end
